-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_points [hPre_finite_points : Cert.Pre_finite_points.Facts] (m : (ℓ : Loc Cert.KernelIdeal.nD Cert.KernelIdeal.τ Cert.KernelIdeal.sig) → Buf (Elt Ideal) ℓ) : Prop :=
  ∀ c : Dev Cert.KernelIdeal.nD,
    (Cert.Pre_finite_points.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_points [hPre_finite_points : Cert.Pre_finite_points.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_points.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_points [hKernelIdeal : Cert.KernelIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_points m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_points [hReferenceIdeal : Cert.ReferenceIdeal.Facts] [hPre_finite_points : Cert.Pre_finite_points.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_points m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_points [hKernelIdeal : Cert.KernelIdeal.Facts] [hReferenceIdeal : Cert.ReferenceIdeal.Facts] [hPre_finite_points : Cert.Pre_finite_points.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_points m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_points : Cert.Pre_finite_points.Facts),
    quiescent_Kernel (hKernel := hKernel)
    ∧ quiescent_KernelIdeal (hKernelIdeal := hKernelIdeal)
    ∧ quiescent_KernelIdeal_pre_finite_points (hKernelIdeal := hKernelIdeal) (hPre_finite_points := hPre_finite_points)
    ∧ quiescent_ReferenceIdeal (hReferenceIdeal := hReferenceIdeal)
    ∧ quiescent_ReferenceIdeal_pre_finite_points (hReferenceIdeal := hReferenceIdeal) (hPre_finite_points := hPre_finite_points)
    ∧ preserves_Kernel_KernelIdeal
    ∧ algebraic_KernelIdeal_ReferenceIdeal_pre_finite_points (hKernelIdeal := hKernelIdeal) (hReferenceIdeal := hReferenceIdeal) (hPre_finite_points := hPre_finite_points)
-- ==== Pre_finite_points.lean ====
abbrev S32x4096x3 : Shape := ⟨3, ![32, 4096, 3]⟩
abbrev S_ : Shape := ⟨0, ![]⟩

class Facts : Prop where
  bcast_S_S32x4096x3 : S_.BroadcastsInDim S32x4096x3 (![] : Fin 0 → Fin S32x4096x3.rank)

variable [Facts]

def fn {F : FTy → Type} [FloatOps F] (main_arg0 : FVec F S32x4096x3 .f32) (main_arg1 : FVec F S32x4096x3 .f32) : IVec S32x4096x3 1 :=
  let main_v0 : FVec F S32x4096x3 .f32 := Host.absf main_arg0
  let main_cst : FVec F S_ .f32 := constant S_ .f32 0x7F800000#32
  let main_v1 : FVec F S32x4096x3 .f32 := broadcastInDim S32x4096x3 ![] bcast_S_S32x4096x3 main_cst
  let main_v2 : IVec S32x4096x3 1 := cmpf .olt main_v0 main_v1
  let main_v3 : FVec F S32x4096x3 .f32 := Host.absf main_arg1
  let main_cst_0 : FVec F S_ .f32 := constant S_ .f32 0x7F800000#32
  let main_v4 : FVec F S32x4096x3 .f32 := broadcastInDim S32x4096x3 ![] bcast_S_S32x4096x3 main_cst_0
  let main_v5 : IVec S32x4096x3 1 := cmpf .olt main_v3 main_v4
  let main_v6 : IVec S32x4096x3 1 := andi main_v2 main_v5
  main_v6
-- ==== Kernel.lean ====
abbrev S32x4096x3 : Shape := ⟨3, ![32, 4096, 3]⟩
abbrev S32x3x4096 : Shape := ⟨3, ![32, 3, 4096]⟩
abbrev S32x1x4096 : Shape := ⟨3, ![32, 1, 4096]⟩
abbrev S1x1024x3 : Shape := ⟨3, ![1, 1024, 3]⟩
abbrev S1x3x4096 : Shape := ⟨3, ![1, 3, 4096]⟩
abbrev S1x1x1024 : Shape := ⟨3, ![1, 1, 1024]⟩
abbrev S1x1x4096 : Shape := ⟨3, ![1, 1, 4096]⟩
abbrev S1024x3 : Shape := ⟨2, ![1024, 3]⟩
abbrev S3x4096 : Shape := ⟨2, ![3, 4096]⟩
abbrev S1024 : Shape := ⟨1, ![1024]⟩
abbrev S1024x1 : Shape := ⟨2, ![1024, 1]⟩
abbrev S4096 : Shape := ⟨1, ![4096]⟩
abbrev S1x4096 : Shape := ⟨2, ![1, 4096]⟩
abbrev S1024x4096 : Shape := ⟨2, ![1024, 4096]⟩
abbrev S_ : Shape := ⟨0, ![]⟩

abbrev nBuf : Space → Nat
  | .hbm => 14
  | .vmem => 8
  | .smem => 0
  | _ => 0

abbrev bufTy : (tb : Table) → Fin (tcTables nBuf tb) → BufTy
  | .hbm, ⟨0, _⟩ => ⟨S32x4096x3, .f32⟩
  | .hbm, ⟨1, _⟩ => ⟨S32x4096x3, .f32⟩
  | .hbm, ⟨2, _⟩ => ⟨S32x3x4096, .f32⟩
  | .hbm, ⟨3, _⟩ => ⟨S32x1x4096, .f32⟩
  | .hbm, ⟨4, _⟩ => ⟨S32x1x4096, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x4096, .f32⟩
  | .local _ .vmem, ⟨3, _⟩ => ⟨S1x3x4096, .f32⟩
  | .local _ .vmem, ⟨4, _⟩ => ⟨S1x1x1024, .f32⟩
  | .local _ .vmem, ⟨5, _⟩ => ⟨S1x1x1024, .f32⟩
  | .local _ .vmem, ⟨6, _⟩ => ⟨S1x1x4096, .f32⟩
  | .local _ .vmem, ⟨7, _⟩ => ⟨S1x1x4096, .f32⟩
  | _, _ => ⟨S32x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 4], ![false, false]⟩

def k0_cond1 (i : grid0.Coords) : BitVec 1 :=
  let arg1 : BitVec 32 := BitVec.ofNat 32 (i 1).val
  let c0_i32 : BitVec 32 := 0#32
  let v22 : BitVec 1 := Scalar.cmpi .eq arg1 c0_i32
  let v23 : BitVec 32 := Scalar.extui v22
  let c0_i32_13 : BitVec 32 := 0#32
  let v24 : BitVec 1 := Scalar.cmpi .ne v23 c0_i32_13
  v24

def k0_cond2 (i : grid0.Coords) : BitVec 1 :=
  let arg1 : BitVec 32 := BitVec.ofNat 32 (i 1).val
  let c0_i32_14 : BitVec 32 := 0#32
  let v25 : BitVec 1 := Scalar.cmpi .ne arg1 c0_i32_14
  let v26 : BitVec 32 := Scalar.extui v25
  let c0_i32_15 : BitVec 32 := 0#32
  let v27 : BitVec 1 := Scalar.cmpi .ne v26 c0_i32_15
  v27

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceIdeal.lean ====
abbrev S32x4096x3 : Shape := ⟨3, ![32, 4096, 3]⟩
abbrev S32x4096x1x3 : Shape := ⟨4, ![32, 4096, 1, 3]⟩
abbrev S32x1x4096x3 : Shape := ⟨4, ![32, 1, 4096, 3]⟩
abbrev S32x4096x4096x3 : Shape := ⟨4, ![32, 4096, 4096, 3]⟩
abbrev S_ : Shape := ⟨0, ![]⟩
abbrev S32x4096x4096 : Shape := ⟨3, ![32, 4096, 4096]⟩
abbrev S32x4096 : Shape := ⟨2, ![32, 4096]⟩
abbrev S32 : Shape := ⟨1, ![32]⟩

abbrev nBuf : Space → Nat
  | .hbm => 29
  | .vmem => 0
  | .smem => 0
  | _ => 0

abbrev bufTy : (tb : Table) → Fin (tcTables nBuf tb) → BufTy
  | .hbm, ⟨0, _⟩ => ⟨S32x4096x3, .f32⟩
  | .hbm, ⟨1, _⟩ => ⟨S32x4096x3, .f32⟩
  | .hbm, ⟨2, _⟩ => ⟨S32x4096x1x3, .f32⟩
  | .hbm, ⟨3, _⟩ => ⟨S32x1x4096x3, .f32⟩
  | .hbm, ⟨4, _⟩ => ⟨S32x4096x4096x3, .f32⟩
  | .hbm, ⟨5, _⟩ => ⟨S32x4096x4096x3, .f32⟩
  | .hbm, ⟨6, _⟩ => ⟨S32x4096x4096x3, .f32⟩
  | .hbm, ⟨7, _⟩ => ⟨S32x4096x4096x3, .f32⟩
  | .hbm, ⟨8, _⟩ => ⟨S_, .f32⟩
  | .hbm, ⟨9, _⟩ => ⟨S32x4096x4096, .f32⟩
  | .hbm, ⟨10, _⟩ => ⟨S_, .f32⟩
  | .hbm, ⟨11, _⟩ => ⟨S32x4096, .f32⟩
  | .hbm, ⟨12, _⟩ => ⟨S_, .f32⟩
  | .hbm, ⟨13, _⟩ => ⟨S32x4096, .f32⟩
  | .hbm, ⟨14, _⟩ => ⟨S_, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S32x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Reals.lean ====
module

public import Mathlib.Data.EReal.Operations
public import Mathlib.Data.EReal.Inv
public import Mathlib.Algebra.BigOperators.Fin
public import Mathlib.Tactic.Ring
public import Mathlib.Tactic.FieldSimp
public import Idealize.ShloMosaic.PureOps.Ideal

/-! Facts about extended reals used by the comparison of the two programs: the expanded squared distance, minima
    over a finite index set taken tile by tile, sums and quotients of real numbers, and the value of each literal. -/

@[expose] public section

noncomputable section

open Idealize.ShloMosaic

namespace Chamfer

/-- The literal `2.0` read at `Ideal` is the real number 2. -/
theorem two_lit : Ideal.ofBits .f32 0x40000000#32 = ((2 : ℝ) : EReal) := by
  simp [Ideal.ofBits, Ideal.ieee]
  rw [← EReal.coe_mul]; congr 1; norm_num

/-- The literal `4096.0` read at `Ideal` is the real number 4096. -/
theorem points_lit : Ideal.ofBits .f32 0x45800000#32 = ((4096 : ℝ) : EReal) := by
  simp [Ideal.ofBits, Ideal.ieee]
  rw [← EReal.coe_mul]; congr 1; norm_num

/-- The literal `32.0` read at `Ideal` is the real number 32. -/
theorem batches_lit : Ideal.ofBits .f32 0x42000000#32 = ((32 : ℝ) : EReal) := by
  simp [Ideal.ofBits, Ideal.ieee]
  rw [← EReal.coe_mul]; congr 1; norm_num

/-- The literal `131072.0` read at `Ideal` is the real number 131072. -/
theorem total_lit : Ideal.ofBits .f32 0x48000000#32 = ((131072 : ℝ) : EReal) := by
  simp [Ideal.ofBits, Ideal.ieee]
  rw [← EReal.coe_mul]; congr 1; norm_num

/-- The literal `+inf` read at `Ideal` is the top element. -/
theorem inf_lit : Ideal.ofBits .f32 0x7F800000#32 = ⊤ := by simp [Ideal.ofBits, Ideal.ieee]

/-- A finite sum of real numbers, taken in the extended reals, is the real sum. -/
theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Division of a real number by a nonzero real number, taken in the extended reals, is the real quotient. -/
theorem div_real (a b : ℝ) (hb : b ≠ 0) : Ideal.div (a : EReal) (b : EReal) = ((a / b : ℝ) : EReal) := by
  have h : (b : EReal) ≠ 0 := by exact_mod_cast hb
  rw [Ideal.div, if_neg h, ← EReal.coe_inv, ← EReal.coe_mul, div_eq_mul_inv]

/-- For real coordinates, the sum of the two squared norms minus twice the inner product is the sum of the squared
    differences. -/
theorem expand (a b : Fin 3 → ℝ) :
    ((∑ k, (a k : EReal) * (a k : EReal)) + ∑ k, (b k : EReal) * (b k : EReal))
        - ((2 : ℝ) : EReal) * ∑ k, (a k : EReal) * (b k : EReal)
      = ((∑ k, (a k - b k) * (a k - b k) : ℝ) : EReal) := by
  simp only [← EReal.coe_mul, sum_coe, ← EReal.coe_add, ← EReal.coe_sub]
  rw [Fin.sum_univ_three, Fin.sum_univ_three, Fin.sum_univ_three, Fin.sum_univ_three]
  congr 1; ring

/-- For real coordinates, the sum of the squared differences taken in the extended reals is the real one. -/
theorem plain (a b : Fin 3 → ℝ) :
    (∑ k, ((a k : EReal) - (b k : EReal)) * ((a k : EReal) - (b k : EReal)))
      = ((∑ k, (a k - b k) * (a k - b k) : ℝ) : EReal) := by
  simp only [← EReal.coe_sub, ← EReal.coe_mul, sum_coe]

/-- The running minimum over a finite index set that starts at the top element is the infimum over that set. -/
theorem fold_min {ι : Type} (s : Finset ι) (f : ι → EReal) : s.fold min ⊤ f = s.inf f := rfl

/-- A minimum over a nonempty finite index set of real numbers is a real number. -/
theorem inf_real {ι : Type} (s : Finset ι) (hs : s.Nonempty) (f : ι → ℝ) :
    ∃ r : ℝ, s.inf (fun i => (f i : EReal)) = (r : EReal) := by
  obtain ⟨i, _, h⟩ := Finset.exists_mem_eq_inf s hs (fun i => (f i : EReal))
  exact ⟨f i, h⟩

/-- The first `n` of the 4096 points. -/
def firsts (n : ℕ) : Finset (Fin 4096) := Finset.univ.filter fun p => p.val < n

/-- Over no point the minimum is the top element. -/
theorem firsts_zero (f : Fin 4096 → EReal) : (firsts 0).inf f = ⊤ := by simp [firsts]

/-- The first 4096 points are all of them. -/
theorem firsts_all : firsts 4096 = Finset.univ := by
  ext p; simp [firsts, p.isLt]

/-- Adding tile `i` of 1024 points: the minimum over the points up to the tile's end is the smaller of the minimum
    over the points before the tile and the minimum over the tile. -/
theorem firsts_tile (f : Fin 4096 → EReal) (i : ℕ) (hi : i < 4) :
    (firsts (1024 * (i + 1))).inf f
      = min ((firsts (1024 * i)).inf f)
          (Finset.univ.inf fun r : Fin 1024 => f ⟨1024 * i + r.val, by omega⟩) := by
  refine eq_of_forall_le_iff fun c => ?_
  rw [le_min_iff, Finset.le_inf_iff, Finset.le_inf_iff, Finset.le_inf_iff]
  simp only [firsts, Finset.mem_filter, Finset.mem_univ, true_and, true_imp_iff]
  constructor
  · intro h
    exact ⟨fun p hp => h p (by omega), fun r => h _ (by show 1024 * i + r.val < _; omega)⟩
  · rintro ⟨h1, h2⟩ p hp
    by_cases hlt : p.val < 1024 * i
    · exact h1 p hlt
    · have e : (⟨1024 * i + (⟨p.val - 1024 * i, by omega⟩ : Fin 1024).val, by omega⟩ : Fin 4096) = p :=
        Fin.ext (by show 1024 * i + (p.val - 1024 * i) = p.val; omega)
      exact e ▸ h2 ⟨p.val - 1024 * i, by omega⟩

/-- The mean over all points of all batches, for the two directions, is the mean over the batches of the sums of
    the two per-batch means. -/
theorem means (r q : Fin 32 → Fin 4096 → ℝ) :
    (∑ b, ∑ n, r b n) / 131072 + (∑ b, ∑ n, q b n) / 131072
      = (∑ b, ((∑ n, r b n) / 4096 + (∑ n, q b n) / 4096)) / 32 := by
  rw [Finset.sum_add_distrib, ← Finset.sum_div, ← Finset.sum_div]
  ring

end Chamfer

end
-- ==== Proof.Payload.lean ====
module

public import proofs.«01_k».proof.Proof.Gen.KernelIdeal.Skeleton
public import proofs.«01_k».proof.Proof.Reals
public import Idealize.ShloMosaic.Lib.Pointwise

/-! What the kernel's body stores, read at one index: the minimum of the block of distances along each row, and along
    each column. -/

@[expose] public section

set_option maxRecDepth 16384

noncomputable section

open Idealize.ShloMosaic Idealize.ShloMosaic.TcCoe Idealize.SL.Sem

namespace Cert.KernelIdeal.Payload

open Cert.KernelIdeal Cert.KernelIdeal.Gen

/-- An entry of the block of distances: the squared norm of row point `r`, plus the squared norm of column point `q`,
    minus twice their inner product. -/
theorem dist_at (x : FVec Ideal S1x1024x3 .f32) (y : FVec Ideal S1x3x4096 .f32) (r : Fin 1024) (q : Fin 4096) :
    k0_pay1 (F := Ideal) x y (ix2 r q)
      = ((∑ k : Fin 3, x (ix3 0 r k) * x (ix3 0 r k)) + ∑ k : Fin 3, y (ix3 0 k q) * y (ix3 0 k q))
        - ((2 : ℝ) : EReal) * ∑ k : Fin 3, x (ix3 0 r k) * y (ix3 0 k q) := by
  pointwise [k0_pay1]
  rw [Chamfer.two_lit]

/-- The stored row minimum at row point `r`: the least distance over all column points. -/
theorem row_at (x : FVec Ideal S1x1024x3 .f32) (y : FVec Ideal S1x3x4096 .f32) (r : Fin 1024) :
    k0_pay2 (F := Ideal) x y (ix3 0 0 r) = Finset.univ.inf fun q : Fin 4096 => k0_pay1 (F := Ideal) x y (ix2 r q) := by
  pointwise [k0_pay2]
  rw [Chamfer.inf_lit, Chamfer.fold_min]

/-- The column minimum stored by a batch's first tile, at column point `q`: the least distance over the tile's row
    points. -/
theorem col_first_at (x : FVec Ideal S1x1024x3 .f32) (y : FVec Ideal S1x3x4096 .f32) (q : Fin 4096) :
    k0_pay4 (F := Ideal) x y (ix3 0 0 q)
      = Finset.univ.inf fun r : Fin 1024 => k0_pay1 (F := Ideal) x y (ix2 r q) := by
  pointwise [k0_pay4, k0_pay3]
  rw [Chamfer.inf_lit, Chamfer.fold_min]

/-- The column minimum stored by a later tile, at column point `q`: the smaller of what was there and the least
    distance over the tile's row points. -/
theorem col_next_at (x : FVec Ideal S1x1024x3 .f32) (y : FVec Ideal S1x3x4096 .f32) (v : FVec Ideal S1x1x4096 .f32)
    (q : Fin 4096) :
    k0_pay5 (F := Ideal) x y v (ix3 0 0 q)
      = min (v (ix3 0 0 q)) (Finset.univ.inf fun r : Fin 1024 => k0_pay1 (F := Ideal) x y (ix2 r q)) := by
  pointwise [k0_pay5, k0_pay3]
  rw [Chamfer.inf_lit, Chamfer.fold_min]

end Cert.KernelIdeal.Payload

end
-- ==== Proof.Arrays.lean ====
module

public import proofs.«01_k».proof.Proof.Gen.KernelIdeal.Frame
public import proofs.«01_k».proof.Proof.Payload
public import Idealize.ShloMosaic.Lib.Pipeline.ValueKit
public import Idealize.ShloMosaic.Lib.Claim

/-! The two arrays the kernel's grid leaves, as functions of the two clouds of points: for every point of the first
    cloud the least distance to the second, and for every point of the second cloud the least distance to the first. -/

@[expose] public section

set_option maxRecDepth 16384

noncomputable section

open Idealize.ShloMosaic Idealize.ShloMosaic.TcCoe Idealize.SL.Sem
open Idealize.ShloMosaic.Pipeline (Dat)

namespace Cert.KernelIdeal.Arrays

open Cert.KernelIdeal Cert.KernelIdeal.Gen

/-- The distance between point `n` of the first cloud and point `q` of the second cloud in batch `b`, in the expanded
    form the kernel computes: both squared norms minus twice the inner product. -/
def gap (X Y : FVec Ideal S32x4096x3 .f32) (b : Fin 32) (n q : Fin 4096) : EReal :=
  ((∑ k : Fin 3, X (ix3 b n k) * X (ix3 b n k)) + ∑ k : Fin 3, Y (ix3 b q k) * Y (ix3 b q k))
    - ((2 : ℝ) : EReal) * ∑ k : Fin 3, X (ix3 b n k) * Y (ix3 b q k)

/-- For every point of the first cloud, the least distance to the second cloud. -/
def rowMin (X Y : FVec Ideal S32x4096x3 .f32) : FVec Ideal S32x1x4096 .f32 :=
  fun i => Finset.univ.inf fun q : Fin 4096 => gap X Y (i 0) (i 2) q

/-- For every point of the second cloud, the least distance to the first cloud. -/
def colMin (X Y : FVec Ideal S32x4096x3 .f32) : FVec Ideal S32x1x4096 .f32 :=
  fun i => Finset.univ.inf fun n : Fin 4096 => gap X Y (i 0) n (i 2)

variable (m : (ℓ : Loc nD τ sig) → Buf (Elt Ideal) ℓ)

/-- The first cloud on device `c`. -/
abbrev argX (c : Dev nD) : FVec Ideal S32x4096x3 .f32 := m ((c : Thread nD τ).loc main_arg0)
/-- The second cloud on device `c`. -/
abbrev argY (c : Dev nD) : FVec Ideal S32x4096x3 .f32 := m ((c : Thread nD τ).loc main_arg1)

/-- The four windows' block indices at grid point `t`: batch `t / 4`, tile `t % 4`. -/
theorem idx : ∀ t : Fin cfg0.N, win0_0.index t = ![t.val / 4, t.val % 4, 0] ∧ win0_1.index t = ![t.val / 4, 0, 0]
    ∧ win0_2.index t = ![t.val / 4, 0, t.val % 4] ∧ win0_3.index t = ![t.val / 4, 0, 0] :=
  (by decide +kernel : ∀ t : Fin grid0.N, _)

/-- The grid has 128 points. -/
theorem lt_points (t : Fin cfg0.N) : t.val < 128 := lt_of_lt_of_eq t.isLt N_0

/-- The block of the first cloud at grid point `t`: tile `t % 4` of batch `t / 4`. -/
theorem blockX (c : Dev nD) (t : Fin cfg0.N) (r : Fin 1024) (k : Fin 3) (b : Fin 32) (hb : b.val = t.val / 4) (n : Fin 4096)
    (hn : n.val = 1024 * (t.val % 4) + r.val) :
    (show FVec Ideal S1x1024x3 .f32 from iblk m c 0 t) (ix3 0 r k) = argX m c (ix3 b n k) := by
  blk_ext [iblk, V, idx t]

/-- The transposed second cloud the grid reads, at an index: coordinate `k` of point `q` of batch `b`. -/
theorem turned (c : Dev nD) (b : Fin 32) (k : Fin 3) (q : Fin 4096) :
    (show FVec Ideal S32x3x4096 .f32 from V m c main_v0) (ix3 b k q) = argY m c (ix3 b q k) := by
  have e : V m c main_v0 = (transpose S32x3x4096 [0, 2, 1] (argY m c) transposes_S32x4096x3_S32x3x4096_0_2_1 : FVec Ideal S32x3x4096 .f32) := by
    show StableHlo.after hostOps0 (fun b => m (c, b)) (Proc.tc.devRef main_v0) = _
    after_results
  rw [e]
  pointwise

/-- The block of the second cloud at grid point `t`: batch `t / 4`, its coordinates first. -/
theorem blockY (c : Dev nD) (t : Fin cfg0.N) (k : Fin 3) (q : Fin 4096) (b : Fin 32) (hb : b.val = t.val / 4) :
    (show FVec Ideal S1x3x4096 .f32 from iblk m c 1 t) (ix3 0 k q) = argY m c (ix3 b q k) := by
  rw [← turned m c b k q]
  blk_ext [iblk, idx t]

/-- An entry of the block of distances at grid point `t` is the distance between the two points it stands for. -/
theorem block_gap (c : Dev nD) (t : Fin cfg0.N) (r : Fin 1024) (q : Fin 4096) (b : Fin 32) (hb : b.val = t.val / 4)
    (n : Fin 4096) (hn : n.val = 1024 * (t.val % 4) + r.val) :
    k0_pay1 (F := Ideal) (iblk m c 0 t) (iblk m c 1 t) (ix2 r q) = gap (argX m c) (argY m c) b n q := by
  refine (Payload.dist_at _ _ r q).trans ?_
  unfold gap
  simp only [fun k : Fin 3 => blockX m c t r k b hb n hn, fun k : Fin 3 => blockY m c t k q b hb]

/-- What grid point `t` leaves in the row window: the block of row minima. -/
theorem outs_row (c : Dev nD) (t : Fin cfg0.N) (r : Fin 1024) :
    (outsAt0 m c t.val t.isLt).1 (ix3 0 0 r) = k0_pay2 (F := Ideal) (iblk m c 0 t) (iblk m c 1 t) (ix3 0 0 r) := by
  by_cases h : t.val % 4 = 0
  · rw [outsAt0_A m c t h (by omega)]; frame_out
  · rw [outsAt0_B m c t h (by omega)]; frame_out

/-- What a batch's first grid point leaves in the column window. -/
theorem outs_col_first (c : Dev nD) (t : Fin cfg0.N) (h : t.val % 4 = 0) (q : Fin 4096) :
    (outsAt0 m c t.val t.isLt).2 (ix3 0 0 q) = k0_pay4 (F := Ideal) (iblk m c 0 t) (iblk m c 1 t) (ix3 0 0 q) := by
  rw [outsAt0_A m c t h (by omega)]; frame_out

/-- What a batch's later grid point leaves in the column window, over what the point before it left. -/
theorem outs_col_next (c : Dev nD) (t : Fin cfg0.N) (h : ¬t.val % 4 = 0) (q : Fin 4096) :
    (outsAt0 m c t.val t.isLt).2 (ix3 0 0 q)
      = k0_pay5 (F := Ideal) (iblk m c 0 t) (iblk m c 1 t)
          (outsAt0 m c (t.val - 1) (by have := t.isLt; omega)).2 (ix3 0 0 q) := by
  rw [outsAt0_B m c t h (by omega)]; frame_out

/-- The least distance from column point `q` over the row points of the tile at grid point `t`. -/
theorem tile_inf (c : Dev nD) (t : Fin cfg0.N) (q : Fin 4096) (b : Fin 32) (hb : b.val = t.val / 4) :
    (Finset.univ.inf fun r : Fin 1024 => k0_pay1 (F := Ideal) (iblk m c 0 t) (iblk m c 1 t) (ix2 r q))
      = Finset.univ.inf fun r : Fin 1024 =>
          gap (argX m c) (argY m c) b ⟨1024 * (t.val % 4) + r.val, by omega⟩ q := by
  refine Finset.inf_congr rfl fun r _ => ?_
  exact block_gap m c t r q b hb _ rfl

/-- After grid point `n`, the column window holds at `q` the least distance over the row points of the batch's tiles
    seen so far. -/
theorem col_upto (c : Dev nD) (q : Fin 4096) : ∀ (n : ℕ) (hn : n < cfg0.N) (b : Fin 32), b.val = n / 4 →
    (outsAt0 m c n hn).2 (ix3 0 0 q)
      = (Chamfer.firsts (1024 * (n % 4 + 1))).inf fun p => gap (argX m c) (argY m c) b p q := by
  intro n
  induction n using Nat.strong_induction_on with
  | _ n ih =>
    intro hn b hb
    rw [Chamfer.firsts_tile _ (n % 4) (by omega)]
    by_cases h : n % 4 = 0
    · refine (outs_col_first m c ⟨n, hn⟩ h q).trans ?_
      refine (Payload.col_first_at _ _ q).trans ?_
      refine (tile_inf m c ⟨n, hn⟩ q b hb).trans ?_
      have e : (Chamfer.firsts (1024 * (n % 4))).inf (fun p => gap (argX m c) (argY m c) b p q) = ⊤ := by
        rw [h]; exact Chamfer.firsts_zero _
      rw [e]; exact (min_eq_right le_top).symm
    · refine (outs_col_next m c ⟨n, hn⟩ h q).trans ?_
      refine (Payload.col_next_at _ _ _ q).trans ?_
      have e := ih (n - 1) (by omega) (by omega) b (by omega)
      have e4 : (n - 1) % 4 + 1 = n % 4 := by omega
      rw [e4] at e
      exact congrArg₂ min e (tile_inf m c ⟨n, hn⟩ q b hb)

/-- What grid point `t` leaves in the row window, at the array position its block index sits at. -/
theorem row_val (c : Dev nD) (t : Fin cfg0.N) (r : Fin 1024) (b : Fin 32) (hb : b.val = t.val / 4) (n : Fin 4096)
    (hn : n.val = 1024 * (t.val % 4) + r.val) (u : Fin 1) :
    (outsAt0 m c t.val t.isLt).1 (ix3 0 0 r) = rowMin (argX m c) (argY m c) (ix3 b u n) := by
  refine (outs_row m c t r).trans ((Payload.row_at _ _ r).trans ?_)
  exact Finset.inf_congr rfl fun q _ => block_gap m c t r q b hb n hn

/-- What a batch's last grid point leaves in the column window, at the array position its block index sits at. -/
theorem col_val (c : Dev nD) (t : Fin cfg0.N) (h : t.val % 4 = 3) (q : Fin 4096) (b : Fin 32) (hb : b.val = t.val / 4)
    (u : Fin 1) :
    (outsAt0 m c t.val t.isLt).2 (ix3 0 0 q) = colMin (argX m c) (argY m c) (ix3 b u q) := by
  refine (col_upto m c q t.val t.isLt b hb).trans ?_
  rw [h, Chamfer.firsts_all]
  rfl

/-- The kernel's first array: for every point of the first cloud, the least distance to the second. -/
theorem rows (c : Dev nD) : (dats m 0 c).arrAt 2 cfg0.N = rowMin (argX m c) (argY m c) := by
  refine (dats m 0 c).arrAt_eq_of_covers 2 _ (by decide +kernel) fun t hf y => ?_
  blk_simp
  rw [after0_2]
  have ht := lt_points t
  have hy : (y : S1x1x1024.Idx) = ix3 0 0 (y 2) := by blk_ext
  have he : (win0_2.blk t).view.emb y
      = (ix3 ⟨t.val / 4, by omega⟩ 0 ⟨1024 * (t.val % 4) + (y 2).val, by have : (y 2).val < 1024 := (y 2).isLt; omega⟩ : S32x1x4096.Idx) := by
    blk_ext [idx t]
  rw [he]
  refine (congrArg (outsAt0 m c t.val t.isLt).1 hy).trans ?_
  exact row_val m c t (y 2) _ rfl _ rfl 0

/-- The kernel's second array: for every point of the second cloud, the least distance to the first. -/
theorem cols (c : Dev nD) : (dats m 0 c).arrAt 3 cfg0.N = colMin (argX m c) (argY m c) := by
  refine (dats m 0 c).arrAt_eq_of_covers 3 _ (by decide +kernel) fun t hf y => ?_
  blk_simp
  rw [after0_3]
  have ht := lt_points t
  have hy : (y : S1x1x4096.Idx) = ix3 0 0 (y 2) := by blk_ext
  have he : (win0_3.blk t).view.emb y = (ix3 ⟨t.val / 4, by omega⟩ 0 (y 2) : S32x1x4096.Idx) := by
    blk_ext [idx t]
  rw [he]
  refine (congrArg (outsAt0 m c t.val t.isLt).2 hy).trans ?_
  exact col_val m c t ((flush0_3 t).mp hf) (y 2) _ rfl 0

end Cert.KernelIdeal.Arrays

end
-- ==== Proof.Final.lean ====
module

public import proofs.«01_k».proof.Proof.Arrays
public import Idealize.ShloMosaic.Lib.Pipeline.FrameTail

/-! The kernel's run: its result is the sum of the two arrays' means. -/

@[expose] public section

set_option maxRecDepth 16384

noncomputable section

open Idealize.ShloMosaic Idealize.ShloMosaic.TcCoe Idealize.SL.Sem

namespace Cert.KernelIdeal.Final

open Cert.KernelIdeal Cert.KernelIdeal.Gen Cert.KernelIdeal.Arrays

/-- The operations after the grid, over the two arrays: the sum of each divided by 131072, added. -/
def tail (R C : FVec Ideal S32x1x4096 .f32) : FVec Ideal S_ .f32 :=
  addf (Host.divf (Host.reduceAdd R (constant S_ .f32 0x00000000#32) reducesTo_S32x1x4096_S_d0_1_2 h_S_) (constant S_ .f32 0x48000000#32))
    (Host.divf (Host.reduceAdd C (constant S_ .f32 0x00000000#32) reducesTo_S32x1x4096_S_d0_1_2 h_S_) (constant S_ .f32 0x48000000#32))

/-- The operations after the grid, run from any contents, leave the result at the tail of the two arrays. -/
theorem after_tail (W : Valuation τ sig (Elt Ideal)) :
    StableHlo.after hostOps1 W (Proc.tc.devRef main_v6)
      = tail (W (Proc.tc.devRef main_v1_0)) (W (Proc.tc.devRef main_v1_1)) := by
  unfold tail
  after_results

variable (m : (ℓ : Loc nD τ sig) → Buf (Elt Ideal) ℓ) (ρ : Dev nD → PrngReg)

/-- Every run of the kernel ends with its result at the tail of the two arrays of least distances and with both
    arguments unchanged. -/
theorem run : θ_run defs (onTc (τ := τ) (main (F := Ideal))) ⟨m, fun _ => 0, ρ⟩ fun r => ∀ c : Dev nD,
      r.2.mem ((c.tc : Thread nD τ).loc main_v6) = tail (rowMin (argX m c) (argY m c)) (colMin (argX m c) (argY m c))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono ?_ (θ_run_and (run_main m ρ) (unchanged m ρ))
  rintro r ⟨h, hu⟩ c
  refine ⟨?_, hu c⟩
  refine ((h c).2 main_v6 (Pipeline.mem_restRefs_of main_v6 (by decide) (by decide))).trans ?_
  refine (after_tail _).trans ?_
  exact congrArg₂ tail
    ((Pipeline.withArrays_arr (cfgs 0).spec launch0.win.arr_inj c (V0 m c) (fun w => (dats m 0 c).arrAt w (cfgs 0).N) 2).trans (rows m c))
    ((Pipeline.withArrays_arr (cfgs 0).spec launch0.win.arr_inj c (V0 m c) (fun w => (dats m 0 c).arrAt w (cfgs 0).N) 3).trans (cols m c))

/-- The tail at its one index: each array's sum over batches and points, divided by 131072, added. -/
theorem tail_at (R C : FVec Ideal S32x1x4096 .f32) (j : S_.Idx) :
    tail R C j
      = Ideal.div (∑ b : Fin 32, ∑ u : Fin 1, ∑ n : Fin 4096, R (ix3 b u n)) ((131072 : ℝ) : EReal)
        + Ideal.div (∑ b : Fin 32, ∑ u : Fin 1, ∑ n : Fin 4096, C (ix3 b u n)) ((131072 : ℝ) : EReal) := by
  pointwise [tail]
  rw [Chamfer.total_lit]

end Cert.KernelIdeal.Final

end
-- ==== Proof.Reference.lean ====
module

public import proofs.«01_k».proof.Proof.Gen.ReferenceIdeal.Run
public import proofs.«01_k».proof.Proof.Reals
public import Idealize.ShloMosaic.Lib.Pointwise

/-! The reference's result, as a function of the two clouds of points, read at its one index. -/

@[expose] public section

set_option maxRecDepth 16384

noncomputable section

open Idealize.ShloMosaic Idealize.ShloMosaic.TcCoe Idealize.SL.Sem

namespace Cert.ReferenceIdeal.Plain

open Cert.ReferenceIdeal Cert.ReferenceIdeal.Gen

/-- The reference's array of squared distances between all pairs of points of a batch. -/
def dist (X Y : FVec Ideal S32x4096x3 .f32) : FVec Ideal S32x4096x4096 .f32 :=
  Host.reduceAdd (mulf (subf (broadcastInDim S32x4096x4096x3 ![0, 1, 2, 3] bcast_S32x4096x1x3_S32x4096x4096x3_0_1_2_3 (broadcastInDim S32x4096x1x3 ![0, 1, 3] bcast_S32x4096x3_S32x4096x1x3_0_1_3 X)) (broadcastInDim S32x4096x4096x3 ![0, 1, 2, 3] bcast_S32x1x4096x3_S32x4096x4096x3_0_1_2_3 (broadcastInDim S32x1x4096x3 ![0, 2, 3] bcast_S32x4096x3_S32x1x4096x3_0_2_3 Y))) (subf (broadcastInDim S32x4096x4096x3 ![0, 1, 2, 3] bcast_S32x4096x1x3_S32x4096x4096x3_0_1_2_3 (broadcastInDim S32x4096x1x3 ![0, 1, 3] bcast_S32x4096x3_S32x4096x1x3_0_1_3 X)) (broadcastInDim S32x4096x4096x3 ![0, 1, 2, 3] bcast_S32x1x4096x3_S32x4096x4096x3_0_1_2_3 (broadcastInDim S32x1x4096x3 ![0, 2, 3] bcast_S32x4096x3_S32x1x4096x3_0_2_3 Y)))) (constant S_ .f32 0x00000000#32) reducesTo_S32x4096x4096x3_S32x4096x4096_d3 h_S_

/-- The reference's result: the mean over the batches of the sums of the two per-batch means. -/
def result (X Y : FVec Ideal S32x4096x3 .f32) : FVec Ideal S_ .f32 :=
  Host.divf (Host.reduceAdd (addf (Host.divf (Host.reduceAdd (Host.reduce FloatOps.minimumf (dist X Y) (constant S_ .f32 0x7F800000#32) reducesTo_S32x4096x4096_S32x4096_d2 h_S_) (constant S_ .f32 0x00000000#32) reducesTo_S32x4096_S32_d1 h_S_) (broadcastInDim S32 ![] bcast_S_S32 (constant S_ .f32 0x45800000#32))) (Host.divf (Host.reduceAdd (Host.reduce FloatOps.minimumf (dist X Y) (constant S_ .f32 0x7F800000#32) reducesTo_S32x4096x4096_S32x4096_d1 h_S_) (constant S_ .f32 0x00000000#32) reducesTo_S32x4096_S32_d1 h_S_) (broadcastInDim S32 ![] bcast_S_S32 (constant S_ .f32 0x45800000#32)))) (constant S_ .f32 0x00000000#32) reducesTo_S32_S_d0 h_S_) (constant S_ .f32 0x42000000#32)

/-- An entry of the array of squared distances: the sum of the squared coordinate differences. -/
theorem dist_at (X Y : FVec Ideal S32x4096x3 .f32) (b : Fin 32) (n q : Fin 4096) :
    dist X Y (ix3 b n q)
      = ∑ k : Fin 3, (X (ix3 b n k) - Y (ix3 b q k)) * (X (ix3 b n k) - Y (ix3 b q k)) := by
  pointwise [dist]

/-- The reference's result at its one index. -/
theorem result_at (X Y : FVec Ideal S32x4096x3 .f32) (j : S_.Idx) :
    result X Y j
      = Ideal.div (∑ b : Fin 32,
            (Ideal.div (∑ n : Fin 4096, Finset.univ.inf fun q : Fin 4096 => dist X Y (ix3 b n q)) ((4096 : ℝ) : EReal)
              + Ideal.div (∑ q : Fin 4096, Finset.univ.inf fun n : Fin 4096 => dist X Y (ix3 b n q)) ((4096 : ℝ) : EReal)))
          ((32 : ℝ) : EReal) := by
  pointwise [result]
  rw [Chamfer.inf_lit, Chamfer.points_lit, Chamfer.batches_lit]
  rfl

variable (m : (ℓ : Loc nD τ sig) → Buf (Elt Ideal) ℓ) (ρ : Dev nD → PrngReg)

/-- Every run of the reference ends with its result at `result` of the arguments and with both arguments unchanged. -/
theorem run : θ_run defs (onTc (τ := τ) (main (F := Ideal))) ⟨m, fun _ => 0, ρ⟩ fun r => ∀ c : Dev nD,
      r.2.mem ((c.tc : Thread nD τ).loc main_v17)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.ReferenceIdeal.Plain

end
-- ==== Proof.Compare.lean ====
module

public import proofs.«01_k».proof.Defs
public import proofs.«01_k».proof.Proof.Final
public import proofs.«01_k».proof.Proof.Reference

/-! For clouds of finite points, the kernel's result and the reference's result are the same number. -/

@[expose] public section

set_option maxRecDepth 16384

noncomputable section

open Idealize.ShloMosaic

namespace Chamfer

/-- The condition on the arguments asks only for a scalar broadcast to the arguments' shape. -/
theorem pre_facts : Cert.Pre_finite_points.Facts := ⟨by decide⟩

/-- An extended real whose absolute value is below the top element is a real number. -/
theorem real_of_abs_lt (x : EReal) (h : max x (-x) < ⊤) : ∃ r : ℝ, x = (r : EReal) := by
  induction x with
  | bot => simp at h
  | coe r => exact ⟨r, rfl⟩
  | top => simp at h

/-- A conjunction of two one-bit words is one only if both are. -/
theorem both_of_and (p q : BitVec 1) (h : p &&& q = 1#1) : p = 1#1 ∧ q = 1#1 := by
  revert p q; decide

/-- A truth value written as a one-bit word is one only if it is true. -/
theorem lt_of_word {p : Prop} [Decidable p] (h : BitVec.ofBool (decide p) = 1#1) : p := by
  by_contra hp
  rw [decide_eq_false hp] at h
  exact absurd h (by decide)

/-- Where the condition on the arguments holds, every coordinate of both clouds is a real number. -/
theorem real_points [Cert.Pre_finite_points.Facts] (X Y : FVec Ideal ⟨3, ![32, 4096, 3]⟩ .f32)
    (h : Cert.Pre_finite_points.fn (F := Ideal) X Y = fun _ => 1#1) (i : (⟨3, ![32, 4096, 3]⟩ : Shape).Idx) :
    (∃ r : ℝ, X i = (r : EReal)) ∧ ∃ r : ℝ, Y i = (r : EReal) := by
  have hi := congrFun h i
  idx_vars i
  pointwise [Cert.Pre_finite_points.fn] at hi
  rw [inf_lit] at hi
  obtain ⟨h1, h2⟩ := both_of_and _ _ hi
  exact ⟨real_of_abs_lt _ (lt_of_word h1), real_of_abs_lt _ (lt_of_word h2)⟩

/-- Both programs' results over clouds whose coordinates are the real numbers `a` and `b`: the kernel's is the
    reference's. -/
theorem same (X Y : FVec Ideal ⟨3, ![32, 4096, 3]⟩ .f32) (a b : Fin 32 → Fin 4096 → Fin 3 → ℝ)
    (hX : ∀ s n k, X (ix3 s n k) = (a s n k : EReal)) (hY : ∀ s n k, Y (ix3 s n k) = (b s n k : EReal)) :
    Cert.KernelIdeal.Final.tail (Cert.KernelIdeal.Arrays.rowMin X Y) (Cert.KernelIdeal.Arrays.colMin X Y)
      = Cert.ReferenceIdeal.Plain.result X Y := by
  -- the real squared distance both programs compute
  let d : Fin 32 → Fin 4096 → Fin 4096 → ℝ := fun s n q => ∑ k, (a s n k - b s q k) * (a s n k - b s q k)
  have hgap : ∀ s n q, Cert.KernelIdeal.Arrays.gap X Y s n q = (d s n q : EReal) := fun s n q => by
    unfold Cert.KernelIdeal.Arrays.gap
    simp only [hX, hY]
    exact expand (a s n) (b s q)
  have hdist : ∀ s n q, Cert.ReferenceIdeal.Plain.dist X Y (ix3 s n q) = (d s n q : EReal) := fun s n q => by
    refine (Cert.ReferenceIdeal.Plain.dist_at X Y s n q).trans ?_
    simp only [hX, hY]
    exact plain (a s n) (b s q)
  -- the least distances, as real numbers
  have hr : ∀ s n, ∃ r : ℝ, (Finset.univ.inf fun q => (d s n q : EReal)) = (r : EReal) :=
    fun s n => inf_real _ ⟨0, Finset.mem_univ _⟩ _
  have hc : ∀ s q, ∃ r : ℝ, (Finset.univ.inf fun n => (d s n q : EReal)) = (r : EReal) :=
    fun s q => inf_real _ ⟨0, Finset.mem_univ _⟩ _
  choose r hr using hr
  choose c hc using hc
  have hrow : ∀ s u n, Cert.KernelIdeal.Arrays.rowMin X Y (ix3 s u n) = (r s n : EReal) := fun s u n =>
    (Finset.inf_congr rfl fun q _ => hgap s n q).trans (hr s n)
  have hcol : ∀ s u q, Cert.KernelIdeal.Arrays.colMin X Y (ix3 s u q) = (c s q : EReal) := fun s u q =>
    (Finset.inf_congr rfl fun n _ => hgap s n q).trans (hc s q)
  funext j
  refine (Cert.KernelIdeal.Final.tail_at _ _ j).trans (Eq.trans ?_ (Cert.ReferenceIdeal.Plain.result_at X Y j).symm)
  simp only [hrow, hcol, hdist, hr, hc, sum_coe, Fin.sum_univ_one]
  simp only [div_real _ _ (by norm_num : (131072 : ℝ) ≠ 0), div_real _ _ (by norm_num : (4096 : ℝ) ≠ 0),
    ← EReal.coe_add, sum_coe, div_real _ _ (by norm_num : (32 : ℝ) ≠ 0)]
  exact congrArg _ (means r c)

/-- Where the condition on the arguments holds, the kernel's result is the reference's. -/
theorem same_of_pre [Cert.Pre_finite_points.Facts] (X Y : FVec Ideal ⟨3, ![32, 4096, 3]⟩ .f32)
    (h : Cert.Pre_finite_points.fn (F := Ideal) X Y = fun _ => 1#1) :
    Cert.KernelIdeal.Final.tail (Cert.KernelIdeal.Arrays.rowMin X Y) (Cert.KernelIdeal.Arrays.colMin X Y)
      = Cert.ReferenceIdeal.Plain.result X Y := by
  have hX : ∀ (s : Fin 32) (n : Fin 4096) (k : Fin 3), ∃ r : ℝ, X (ix3 s n k) = (r : EReal) :=
    fun s n k => (real_points X Y h (ix3 s n k)).1
  have hY : ∀ (s : Fin 32) (n : Fin 4096) (k : Fin 3), ∃ r : ℝ, Y (ix3 s n k) = (r : EReal) :=
    fun s n k => (real_points X Y h (ix3 s n k)).2
  choose a ha using hX
  choose b hb using hY
  exact same X Y a b ha hb

end Chamfer

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Compare
public import Idealize.ShloMosaic.Adequacy
public import Idealize.ShloMosaic.Init

@[expose] public section

noncomputable section

namespace Cert.Proof

open Idealize.ShloMosaic Idealize.SL.Sem Cert.Kernel

/-- The reference's frame: its run ends with the arguments unchanged, and it has no counter to leave nonzero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => ⟨(h c).2.1, (h c).2.2⟩, sem_eq_zero_of_no_sems (by decide) r.2⟩)
    (Cert.ReferenceIdeal.Plain.run m g)

/-- The value claim: over finite points, the kernel and the reference end with the same number. -/
theorem value : Cert.algebraic_KernelIdeal_ReferenceIdeal_pre_finite_points (hKernelIdeal := Cert.KernelIdeal.Gen.facts)
    (hReferenceIdeal := Cert.ReferenceIdeal.Gen.facts) (hPre_finite_points := Chamfer.pre_facts) := by
  intro m g m' g' hpre hagree
  refine ⟨fun c => Cert.KernelIdeal.Final.tail
      (Cert.KernelIdeal.Arrays.rowMin (Cert.KernelIdeal.Arrays.argX m c) (Cert.KernelIdeal.Arrays.argY m c))
      (Cert.KernelIdeal.Arrays.colMin (Cert.KernelIdeal.Arrays.argX m c) (Cert.KernelIdeal.Arrays.argY m c)),
    Cert.KernelIdeal.Final.run m g, ?_⟩
  refine (θ_run Cert.ReferenceIdeal.defs _ _).mono (fun r h c => ⟨(h c).1.trans ?_, (h c).2⟩)
    (Cert.ReferenceIdeal.Plain.run m' g')
  rw [(hagree c).1, (hagree c).2]
  haveI := Chamfer.pre_facts
  exact (Chamfer.same_of_pre _ _ (hpre c)).symm

/-- Everything the certificate claims. -/
theorem claim : Cert.Claim := ⟨Cert.Kernel.Gen.facts, Cert.KernelIdeal.Gen.facts, Cert.ReferenceIdeal.Gen.facts,
  Chamfer.pre_facts, fun m g _ => Cert.Kernel.Gen.frame m g, fun m g _ => Cert.KernelIdeal.Gen.frame m g,
  fun m g _ => Cert.KernelIdeal.Gen.frame m g, fun m g _ => frame_reference m g, fun m g _ => frame_reference m g,
  trivial, value⟩

end Cert.Proof

end
